-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_codebooks_finite [hPre_codebooks_finite : Cert.Pre_codebooks_finite.Facts] (m : (ℓ : Loc Cert.KernelIdeal.nD Cert.KernelIdeal.τ Cert.KernelIdeal.sig) → Buf (Elt Ideal) ℓ) : Prop :=
  ∀ c : Dev Cert.KernelIdeal.nD,
    (Cert.Pre_codebooks_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_codebooks_finite [hPre_codebooks_finite : Cert.Pre_codebooks_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_codebooks_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_codebooks_finite [hKernelIdeal : Cert.KernelIdeal.Facts] [hPre_codebooks_finite : Cert.Pre_codebooks_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_codebooks_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_codebooks_finite [hReferenceIdeal : Cert.ReferenceIdeal.Facts] [hPre_codebooks_finite : Cert.Pre_codebooks_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_codebooks_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_codebooks_finite [hKernelIdeal : Cert.KernelIdeal.Facts] [hReferenceIdeal : Cert.ReferenceIdeal.Facts] [hPre_codebooks_finite : Cert.Pre_codebooks_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_codebooks_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v209) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_codebooks_finite : Cert.Pre_codebooks_finite.Facts),
    quiescent_Kernel (hKernel := hKernel)
    ∧ quiescent_KernelIdeal (hKernelIdeal := hKernelIdeal)
    ∧ quiescent_KernelIdeal_pre_codebooks_finite (hKernelIdeal := hKernelIdeal) (hPre_codebooks_finite := hPre_codebooks_finite)
    ∧ quiescent_ReferenceIdeal (hReferenceIdeal := hReferenceIdeal)
    ∧ quiescent_ReferenceIdeal_pre_codebooks_finite (hReferenceIdeal := hReferenceIdeal) (hPre_codebooks_finite := hPre_codebooks_finite)
    ∧ preserves_Kernel_KernelIdeal
    ∧ algebraic_KernelIdeal_ReferenceIdeal_pre_codebooks_finite (hKernelIdeal := hKernelIdeal) (hReferenceIdeal := hReferenceIdeal) (hPre_codebooks_finite := hPre_codebooks_finite)
-- ==== Pre_codebooks_finite.lean ====
abbrev S8x256x2048 : Shape := ⟨3, ![8, 256, 2048]⟩
abbrev S8x1024x32 : Shape := ⟨3, ![8, 1024, 32]⟩
abbrev S_ : Shape := ⟨0, ![]⟩

class Facts : Prop where
  bcast_S_S8x1024x32 : S_.BroadcastsInDim S8x1024x32 (![] : Fin 0 → Fin S8x1024x32.rank)

variable [Facts]

def fn {F : FTy → Type} [FloatOps F] (main_arg0 : FVec F S8x256x2048 .f32) (main_arg1 : FVec F S8x1024x32 .f32) : IVec S8x1024x32 1 :=
  let main_v0 : FVec F S8x1024x32 .f32 := Host.absf main_arg1
  let main_cst : FVec F S_ .f32 := constant S_ .f32 0x7F800000#32
  let main_v1 : FVec F S8x1024x32 .f32 := broadcastInDim S8x1024x32 ![] bcast_S_S8x1024x32 main_cst
  let main_v2 : IVec S8x1024x32 1 := cmpf .olt main_v0 main_v1
  main_v2
-- ==== Kernel.lean ====
abbrev S8x256x2048 : Shape := ⟨3, ![8, 256, 2048]⟩
abbrev S8x1024x32 : Shape := ⟨3, ![8, 1024, 32]⟩
abbrev S8x8x2048 : Shape := ⟨3, ![8, 8, 2048]⟩
abbrev S1x256x512 : Shape := ⟨3, ![1, 256, 512]⟩
abbrev S1x8x512 : Shape := ⟨3, ![1, 8, 512]⟩
abbrev S256x512 : Shape := ⟨2, ![256, 512]⟩
abbrev S32x512 : Shape := ⟨2, ![32, 512]⟩
abbrev S1x1024x32 : Shape := ⟨3, ![1, 1024, 32]⟩
abbrev S1024x32 : Shape := ⟨2, ![1024, 32]⟩
abbrev S1024 : Shape := ⟨1, ![1024]⟩
abbrev S1024x1 : Shape := ⟨2, ![1024, 1]⟩
abbrev S512 : Shape := ⟨1, ![512]⟩
abbrev S1x512 : Shape := ⟨2, ![1, 512]⟩
abbrev S1024x512 : Shape := ⟨2, ![1024, 512]⟩
abbrev S1x1x512 : Shape := ⟨3, ![1, 1, 512]⟩

abbrev nBuf : Space → Nat
  | .hbm => 3
  | .vmem => 5
  | .smem => 0
  | _ => 0

abbrev bufTy : (tb : Table) → Fin (tcTables nBuf tb) → BufTy
  | .hbm, ⟨0, _⟩ => ⟨S8x256x2048, .f32⟩
  | .hbm, ⟨1, _⟩ => ⟨S8x1024x32, .f32⟩
  | .hbm, ⟨2, _⟩ => ⟨S8x8x2048, .i32⟩
  | .local _ .vmem, ⟨0, _⟩ => ⟨S1x256x512, .f32⟩
  | .local _ .vmem, ⟨1, _⟩ => ⟨S1x256x512, .f32⟩
  | .local _ .vmem, ⟨2, _⟩ => ⟨S8x1024x32, .f32⟩
  | .local _ .vmem, ⟨3, _⟩ => ⟨S1x8x512, .i32⟩
  | .local _ .vmem, ⟨4, _⟩ => ⟨S1x8x512, .i32⟩
  | _, _ => ⟨S8x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8x1024x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x8x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S8x256x2048 : Shape := ⟨3, ![8, 256, 2048]⟩
abbrev S8x1024x32 : Shape := ⟨3, ![8, 1024, 32]⟩
abbrev S8x8x32x2048 : Shape := ⟨4, ![8, 8, 32, 2048]⟩
abbrev S8x1x32x2048 : Shape := ⟨4, ![8, 1, 32, 2048]⟩
abbrev S8x32x2048 : Shape := ⟨3, ![8, 32, 2048]⟩
abbrev S1x1024x32 : Shape := ⟨3, ![1, 1024, 32]⟩
abbrev S1024x32 : Shape := ⟨2, ![1024, 32]⟩
abbrev S8x2048x32 : Shape := ⟨3, ![8, 2048, 32]⟩
abbrev S16384x32 : Shape := ⟨2, ![16384, 32]⟩
abbrev S_ : Shape := ⟨0, ![]⟩
abbrev S16384 : Shape := ⟨1, ![16384]⟩
abbrev S16384x1 : Shape := ⟨2, ![16384, 1]⟩
abbrev S1024 : Shape := ⟨1, ![1024]⟩
abbrev S1x1024 : Shape := ⟨2, ![1, 1024]⟩
abbrev S16384x1024 : Shape := ⟨2, ![16384, 1024]⟩
abbrev S32x1024 : Shape := ⟨2, ![32, 1024]⟩
abbrev S8x2048 : Shape := ⟨2, ![8, 2048]⟩
abbrev S8x1x2048 : Shape := ⟨3, ![8, 1, 2048]⟩
abbrev S8x8x2048 : Shape := ⟨3, ![8, 8, 2048]⟩

abbrev nBuf : Space → Nat
  | .hbm => 276
  | .vmem => 0
  | .smem => 0
  | _ => 0

abbrev hbmTy0_0 (i : Nat) : BufTy := match i % 128 with
  | 0 => ⟨S8x256x2048, .f32⟩
  | 1 => ⟨S8x1024x32, .f32⟩
  | 2 => ⟨S8x8x32x2048, .f32⟩
  | 3 => ⟨S8x1x32x2048, .f32⟩
  | 4 => ⟨S8x32x2048, .f32⟩
  | 5 => ⟨S1x1024x32, .f32⟩
  | 6 => ⟨S1024x32, .f32⟩
  | 7 => ⟨S8x2048x32, .f32⟩
  | 8 => ⟨S16384x32, .f32⟩
  | 9 => ⟨S16384x32, .f32⟩
  | 10 => ⟨S_, .f32⟩
  | 11 => ⟨S16384, .f32⟩
  | 12 => ⟨S16384x1, .f32⟩
  | 13 => ⟨S1024x32, .f32⟩
  | 14 => ⟨S_, .f32⟩
  | 15 => ⟨S1024, .f32⟩
  | 16 => ⟨S1x1024, .f32⟩
  | 17 => ⟨S16384x1024, .f32⟩
  | 18 => ⟨S16384x1024, .f32⟩
  | 19 => ⟨S16384x1024, .f32⟩
  | 20 => ⟨S32x1024, .f32⟩
  | 21 => ⟨S16384x1024, .f32⟩
  | 22 => ⟨S_, .f32⟩
  | 23 => ⟨S16384x1024, .f32⟩
  | 24 => ⟨S16384x1024, .f32⟩
  | 25 => ⟨S16384x1024, .f32⟩
  | 26 => ⟨S_, .f32⟩
  | 27 => ⟨S16384x1024, .f32⟩
  | 28 => ⟨S16384x1024, .f32⟩
  | 29 => ⟨S16384x1024, .f32⟩
  | 30 => ⟨S16384x1024, .i32⟩
  | 31 => ⟨S_, .f32⟩
  | 32 => ⟨S_, .i32⟩
  | 33 => ⟨S16384, .f32⟩
  | 34 => ⟨S16384, .i32⟩
  | 35 => ⟨S8x2048, .i32⟩
  | 36 => ⟨S8x1x32x2048, .f32⟩
  | 37 => ⟨S8x32x2048, .f32⟩
  | 38 => ⟨S1x1024x32, .f32⟩
  | 39 => ⟨S1024x32, .f32⟩
  | 40 => ⟨S8x2048x32, .f32⟩
  | 41 => ⟨S16384x32, .f32⟩
  | 42 => ⟨S16384x32, .f32⟩
  | 43 => ⟨S_, .f32⟩
  | 44 => ⟨S16384, .f32⟩
  | 45 => ⟨S16384x1, .f32⟩
  | 46 => ⟨S1024x32, .f32⟩
  | 47 => ⟨S_, .f32⟩
  | 48 => ⟨S1024, .f32⟩
  | 49 => ⟨S1x1024, .f32⟩
  | 50 => ⟨S16384x1024, .f32⟩
  | 51 => ⟨S16384x1024, .f32⟩
  | 52 => ⟨S16384x1024, .f32⟩
  | 53 => ⟨S32x1024, .f32⟩
  | 54 => ⟨S16384x1024, .f32⟩
  | 55 => ⟨S_, .f32⟩
  | 56 => ⟨S16384x1024, .f32⟩
  | 57 => ⟨S16384x1024, .f32⟩
  | 58 => ⟨S16384x1024, .f32⟩
  | 59 => ⟨S_, .f32⟩
  | 60 => ⟨S16384x1024, .f32⟩
  | 61 => ⟨S16384x1024, .f32⟩
  | 62 => ⟨S16384x1024, .f32⟩
  | 63 => ⟨S16384x1024, .i32⟩
  | 64 => ⟨S_, .f32⟩
  | 65 => ⟨S_, .i32⟩
  | 66 => ⟨S16384, .f32⟩
  | 67 => ⟨S16384, .i32⟩
  | 68 => ⟨S8x2048, .i32⟩
  | 69 => ⟨S8x1x32x2048, .f32⟩
  | 70 => ⟨S8x32x2048, .f32⟩
  | 71 => ⟨S1x1024x32, .f32⟩
  | 72 => ⟨S1024x32, .f32⟩
  | 73 => ⟨S8x2048x32, .f32⟩
  | 74 => ⟨S16384x32, .f32⟩
  | 75 => ⟨S16384x32, .f32⟩
  | 76 => ⟨S_, .f32⟩
  | 77 => ⟨S16384, .f32⟩
  | 78 => ⟨S16384x1, .f32⟩
  | 79 => ⟨S1024x32, .f32⟩
  | 80 => ⟨S_, .f32⟩
  | 81 => ⟨S1024, .f32⟩
  | 82 => ⟨S1x1024, .f32⟩
  | 83 => ⟨S16384x1024, .f32⟩
  | 84 => ⟨S16384x1024, .f32⟩
  | 85 => ⟨S16384x1024, .f32⟩
  | 86 => ⟨S32x1024, .f32⟩
  | 87 => ⟨S16384x1024, .f32⟩
  | 88 => ⟨S_, .f32⟩
  | 89 => ⟨S16384x1024, .f32⟩
  | 90 => ⟨S16384x1024, .f32⟩
  | 91 => ⟨S16384x1024, .f32⟩
  | 92 => ⟨S_, .f32⟩
  | 93 => ⟨S16384x1024, .f32⟩
  | 94 => ⟨S16384x1024, .f32⟩
  | 95 => ⟨S16384x1024, .f32⟩
  | 96 => ⟨S16384x1024, .i32⟩
  | 97 => ⟨S_, .f32⟩
  | 98 => ⟨S_, .i32⟩
  | 99 => ⟨S16384, .f32⟩
  | 100 => ⟨S16384, .i32⟩
  | 101 => ⟨S8x2048, .i32⟩
  | 102 => ⟨S8x1x32x2048, .f32⟩
  | 103 => ⟨S8x32x2048, .f32⟩
  | 104 => ⟨S1x1024x32, .f32⟩
  | 105 => ⟨S1024x32, .f32⟩
  | 106 => ⟨S8x2048x32, .f32⟩
  | 107 => ⟨S16384x32, .f32⟩
  | 108 => ⟨S16384x32, .f32⟩
  | 109 => ⟨S_, .f32⟩
  | 110 => ⟨S16384, .f32⟩
  | 111 => ⟨S16384x1, .f32⟩
  | 112 => ⟨S1024x32, .f32⟩
  | 113 => ⟨S_, .f32⟩
  | 114 => ⟨S1024, .f32⟩
  | 115 => ⟨S1x1024, .f32⟩
  | 116 => ⟨S16384x1024, .f32⟩
  | 117 => ⟨S16384x1024, .f32⟩
  | 118 => ⟨S16384x1024, .f32⟩
  | 119 => ⟨S32x1024, .f32⟩
  | 120 => ⟨S16384x1024, .f32⟩
  | 121 => ⟨S_, .f32⟩
  | 122 => ⟨S16384x1024, .f32⟩
  | 123 => ⟨S16384x1024, .f32⟩
  | 124 => ⟨S16384x1024, .f32⟩
  | 125 => ⟨S_, .f32⟩
  | 126 => ⟨S16384x1024, .f32⟩
  | 127 => ⟨S16384x1024, .f32⟩
  | _ => ⟨S8x256x2048, .f32⟩

abbrev hbmTy0_1 (i : Nat) : BufTy := match i % 128 with
  | 0 => ⟨S16384x1024, .f32⟩
  | 1 => ⟨S16384x1024, .i32⟩
  | 2 => ⟨S_, .f32⟩
  | 3 => ⟨S_, .i32⟩
  | 4 => ⟨S16384, .f32⟩
  | 5 => ⟨S16384, .i32⟩
  | 6 => ⟨S8x2048, .i32⟩
  | 7 => ⟨S8x1x32x2048, .f32⟩
  | 8 => ⟨S8x32x2048, .f32⟩
  | 9 => ⟨S1x1024x32, .f32⟩
  | 10 => ⟨S1024x32, .f32⟩
  | 11 => ⟨S8x2048x32, .f32⟩
  | 12 => ⟨S16384x32, .f32⟩
  | 13 => ⟨S16384x32, .f32⟩
  | 14 => ⟨S_, .f32⟩
  | 15 => ⟨S16384, .f32⟩
  | 16 => ⟨S16384x1, .f32⟩
  | 17 => ⟨S1024x32, .f32⟩
  | 18 => ⟨S_, .f32⟩
  | 19 => ⟨S1024, .f32⟩
  | 20 => ⟨S1x1024, .f32⟩
  | 21 => ⟨S16384x1024, .f32⟩
  | 22 => ⟨S16384x1024, .f32⟩
  | 23 => ⟨S16384x1024, .f32⟩
  | 24 => ⟨S32x1024, .f32⟩
  | 25 => ⟨S16384x1024, .f32⟩
  | 26 => ⟨S_, .f32⟩
  | 27 => ⟨S16384x1024, .f32⟩
  | 28 => ⟨S16384x1024, .f32⟩
  | 29 => ⟨S16384x1024, .f32⟩
  | 30 => ⟨S_, .f32⟩
  | 31 => ⟨S16384x1024, .f32⟩
  | 32 => ⟨S16384x1024, .f32⟩
  | 33 => ⟨S16384x1024, .f32⟩
  | 34 => ⟨S16384x1024, .i32⟩
  | 35 => ⟨S_, .f32⟩
  | 36 => ⟨S_, .i32⟩
  | 37 => ⟨S16384, .f32⟩
  | 38 => ⟨S16384, .i32⟩
  | 39 => ⟨S8x2048, .i32⟩
  | 40 => ⟨S8x1x32x2048, .f32⟩
  | 41 => ⟨S8x32x2048, .f32⟩
  | 42 => ⟨S1x1024x32, .f32⟩
  | 43 => ⟨S1024x32, .f32⟩
  | 44 => ⟨S8x2048x32, .f32⟩
  | 45 => ⟨S16384x32, .f32⟩
  | 46 => ⟨S16384x32, .f32⟩
  | 47 => ⟨S_, .f32⟩
  | 48 => ⟨S16384, .f32⟩
  | 49 => ⟨S16384x1, .f32⟩
  | 50 => ⟨S1024x32, .f32⟩
  | 51 => ⟨S_, .f32⟩
  | 52 => ⟨S1024, .f32⟩
  | 53 => ⟨S1x1024, .f32⟩
  | 54 => ⟨S16384x1024, .f32⟩
  | 55 => ⟨S16384x1024, .f32⟩
  | 56 => ⟨S16384x1024, .f32⟩
  | 57 => ⟨S32x1024, .f32⟩
  | 58 => ⟨S16384x1024, .f32⟩
  | 59 => ⟨S_, .f32⟩
  | 60 => ⟨S16384x1024, .f32⟩
  | 61 => ⟨S16384x1024, .f32⟩
  | 62 => ⟨S16384x1024, .f32⟩
  | 63 => ⟨S_, .f32⟩
  | 64 => ⟨S16384x1024, .f32⟩
  | 65 => ⟨S16384x1024, .f32⟩
  | 66 => ⟨S16384x1024, .f32⟩
  | 67 => ⟨S16384x1024, .i32⟩
  | 68 => ⟨S_, .f32⟩
  | 69 => ⟨S_, .i32⟩
  | 70 => ⟨S16384, .f32⟩
  | 71 => ⟨S16384, .i32⟩
  | 72 => ⟨S8x2048, .i32⟩
  | 73 => ⟨S8x1x32x2048, .f32⟩
  | 74 => ⟨S8x32x2048, .f32⟩
  | 75 => ⟨S1x1024x32, .f32⟩
  | 76 => ⟨S1024x32, .f32⟩
  | 77 => ⟨S8x2048x32, .f32⟩
  | 78 => ⟨S16384x32, .f32⟩
  | 79 => ⟨S16384x32, .f32⟩
  | 80 => ⟨S_, .f32⟩
  | 81 => ⟨S16384, .f32⟩
  | 82 => ⟨S16384x1, .f32⟩
  | 83 => ⟨S1024x32, .f32⟩
  | 84 => ⟨S_, .f32⟩
  | 85 => ⟨S1024, .f32⟩
  | 86 => ⟨S1x1024, .f32⟩
  | 87 => ⟨S16384x1024, .f32⟩
  | 88 => ⟨S16384x1024, .f32⟩
  | 89 => ⟨S16384x1024, .f32⟩
  | 90 => ⟨S32x1024, .f32⟩
  | 91 => ⟨S16384x1024, .f32⟩
  | 92 => ⟨S_, .f32⟩
  | 93 => ⟨S16384x1024, .f32⟩
  | 94 => ⟨S16384x1024, .f32⟩
  | 95 => ⟨S16384x1024, .f32⟩
  | 96 => ⟨S_, .f32⟩
  | 97 => ⟨S16384x1024, .f32⟩
  | 98 => ⟨S16384x1024, .f32⟩
  | 99 => ⟨S16384x1024, .f32⟩
  | 100 => ⟨S16384x1024, .i32⟩
  | 101 => ⟨S_, .f32⟩
  | 102 => ⟨S_, .i32⟩
  | 103 => ⟨S16384, .f32⟩
  | 104 => ⟨S16384, .i32⟩
  | 105 => ⟨S8x2048, .i32⟩
  | 106 => ⟨S8x1x32x2048, .f32⟩
  | 107 => ⟨S8x32x2048, .f32⟩
  | 108 => ⟨S1x1024x32, .f32⟩
  | 109 => ⟨S1024x32, .f32⟩
  | 110 => ⟨S8x2048x32, .f32⟩
  | 111 => ⟨S16384x32, .f32⟩
  | 112 => ⟨S16384x32, .f32⟩
  | 113 => ⟨S_, .f32⟩
  | 114 => ⟨S16384, .f32⟩
  | 115 => ⟨S16384x1, .f32⟩
  | 116 => ⟨S1024x32, .f32⟩
  | 117 => ⟨S_, .f32⟩
  | 118 => ⟨S1024, .f32⟩
  | 119 => ⟨S1x1024, .f32⟩
  | 120 => ⟨S16384x1024, .f32⟩
  | 121 => ⟨S16384x1024, .f32⟩
  | 122 => ⟨S16384x1024, .f32⟩
  | 123 => ⟨S32x1024, .f32⟩
  | 124 => ⟨S16384x1024, .f32⟩
  | 125 => ⟨S_, .f32⟩
  | 126 => ⟨S16384x1024, .f32⟩
  | 127 => ⟨S16384x1024, .f32⟩
  | _ => ⟨S8x256x2048, .f32⟩

abbrev hbmTy0_2 (i : Nat) : BufTy := match i % 128 with
  | 0 => ⟨S16384x1024, .f32⟩
  | 1 => ⟨S_, .f32⟩
  | 2 => ⟨S16384x1024, .f32⟩
  | 3 => ⟨S16384x1024, .f32⟩
  | 4 => ⟨S16384x1024, .f32⟩
  | 5 => ⟨S16384x1024, .i32⟩
  | 6 => ⟨S_, .f32⟩
  | 7 => ⟨S_, .i32⟩
  | 8 => ⟨S16384, .f32⟩
  | 9 => ⟨S16384, .i32⟩
  | 10 => ⟨S8x2048, .i32⟩
  | 11 => ⟨S8x1x2048, .i32⟩
  | 12 => ⟨S8x1x2048, .i32⟩
  | 13 => ⟨S8x1x2048, .i32⟩
  | 14 => ⟨S8x1x2048, .i32⟩
  | 15 => ⟨S8x1x2048, .i32⟩
  | 16 => ⟨S8x1x2048, .i32⟩
  | 17 => ⟨S8x1x2048, .i32⟩
  | 18 => ⟨S8x1x2048, .i32⟩
  | 19 => ⟨S8x8x2048, .i32⟩
  | _ => ⟨S8x256x2048, .f32⟩

abbrev hbmTy (i : Nat) : BufTy := match i / 128 with
  | 0 => hbmTy0_0 i
  | 1 => hbmTy0_1 i
  | 2 => hbmTy0_2 i
  | _ => ⟨S8x256x2048, .f32⟩

abbrev bufTy : (tb : Table) → Fin (tcTables nBuf tb) → BufTy
  | .hbm, ⟨i, _⟩ => hbmTy i
  | _, _ => ⟨S8x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_1 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_2 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_call0_v0 : Ref sig .tc := ⟨.hbm, 30, rfl⟩
abbrev main_call0_cst : Ref sig .tc := ⟨.hbm, 31, rfl⟩
abbrev main_call0_c : Ref sig .tc := ⟨.hbm, 32, rfl⟩
abbrev main_call0_v1_0 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_3 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_4 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_5 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_6 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_call1_v0 : Ref sig .tc := ⟨.hbm, 63, rfl⟩
abbrev main_call1_cst : Ref sig .tc := ⟨.hbm, 64, rfl⟩
abbrev main_call1_c : Ref sig .tc := ⟨.hbm, 65, rfl⟩
abbrev main_call1_v1_0 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_7 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_8 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_cst_9 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_cst_10 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_call2_v0 : Ref sig .tc := ⟨.hbm, 96, rfl⟩
abbrev main_call2_cst : Ref sig .tc := ⟨.hbm, 97, rfl⟩
abbrev main_call2_c : Ref sig .tc := ⟨.hbm, 98, rfl⟩
abbrev main_call2_v1_0 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_cst_11 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_cst_12 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_cst_13 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_cst_14 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_call3_v0 : Ref sig .tc := ⟨.hbm, 129, rfl⟩
abbrev main_call3_cst : Ref sig .tc := ⟨.hbm, 130, rfl⟩
abbrev main_call3_c : Ref sig .tc := ⟨.hbm, 131, rfl⟩
abbrev main_call3_v1_0 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_cst_15 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_cst_16 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_cst_17 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_cst_18 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_call4_v0 : Ref sig .tc := ⟨.hbm, 162, rfl⟩
abbrev main_call4_cst : Ref sig .tc := ⟨.hbm, 163, rfl⟩
abbrev main_call4_c : Ref sig .tc := ⟨.hbm, 164, rfl⟩
abbrev main_call4_v1_0 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_cst_19 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_cst_20 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_cst_21 : Ref sig .tc := ⟨.hbm, 187, rfl⟩
abbrev main_v143 : Ref sig .tc := ⟨.hbm, 188, rfl⟩
abbrev main_v144 : Ref sig .tc := ⟨.hbm, 189, rfl⟩
abbrev main_v145 : Ref sig .tc := ⟨.hbm, 190, rfl⟩
abbrev main_cst_22 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_call5_v0 : Ref sig .tc := ⟨.hbm, 195, rfl⟩
abbrev main_call5_cst : Ref sig .tc := ⟨.hbm, 196, rfl⟩
abbrev main_call5_c : Ref sig .tc := ⟨.hbm, 197, rfl⟩
abbrev main_call5_v1_0 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_cst_23 : Ref sig .tc := ⟨.hbm, 208, rfl⟩
abbrev main_v158 : Ref sig .tc := ⟨.hbm, 209, rfl⟩
abbrev main_v159 : Ref sig .tc := ⟨.hbm, 210, rfl⟩
abbrev main_v160 : Ref sig .tc := ⟨.hbm, 211, rfl⟩
abbrev main_cst_24 : Ref sig .tc := ⟨.hbm, 212, rfl⟩
abbrev main_v161 : Ref sig .tc := ⟨.hbm, 213, rfl⟩
abbrev main_v162 : Ref sig .tc := ⟨.hbm, 214, rfl⟩
abbrev main_v163 : Ref sig .tc := ⟨.hbm, 215, rfl⟩
abbrev main_v164 : Ref sig .tc := ⟨.hbm, 216, rfl⟩
abbrev main_v165 : Ref sig .tc := ⟨.hbm, 217, rfl⟩
abbrev main_v166 : Ref sig .tc := ⟨.hbm, 218, rfl⟩
abbrev main_v167 : Ref sig .tc := ⟨.hbm, 219, rfl⟩
abbrev main_cst_25 : Ref sig .tc := ⟨.hbm, 220, rfl⟩
abbrev main_v168 : Ref sig .tc := ⟨.hbm, 221, rfl⟩
abbrev main_v169 : Ref sig .tc := ⟨.hbm, 222, rfl⟩
abbrev main_v170 : Ref sig .tc := ⟨.hbm, 223, rfl⟩
abbrev main_cst_26 : Ref sig .tc := ⟨.hbm, 224, rfl⟩
abbrev main_v171 : Ref sig .tc := ⟨.hbm, 225, rfl⟩
abbrev main_v172 : Ref sig .tc := ⟨.hbm, 226, rfl⟩
abbrev main_v173 : Ref sig .tc := ⟨.hbm, 227, rfl⟩
abbrev main_call6_v0 : Ref sig .tc := ⟨.hbm, 228, rfl⟩
abbrev main_call6_cst : Ref sig .tc := ⟨.hbm, 229, rfl⟩
abbrev main_call6_c : Ref sig .tc := ⟨.hbm, 230, rfl⟩
abbrev main_call6_v1_0 : Ref sig .tc := ⟨.hbm, 231, rfl⟩
abbrev main_v174 : Ref sig .tc := ⟨.hbm, 232, rfl⟩
abbrev main_v175 : Ref sig .tc := ⟨.hbm, 233, rfl⟩
abbrev main_v176 : Ref sig .tc := ⟨.hbm, 234, rfl⟩
abbrev main_v177 : Ref sig .tc := ⟨.hbm, 235, rfl⟩
abbrev main_v178 : Ref sig .tc := ⟨.hbm, 236, rfl⟩
abbrev main_v179 : Ref sig .tc := ⟨.hbm, 237, rfl⟩
abbrev main_v180 : Ref sig .tc := ⟨.hbm, 238, rfl⟩
abbrev main_v181 : Ref sig .tc := ⟨.hbm, 239, rfl⟩
abbrev main_v182 : Ref sig .tc := ⟨.hbm, 240, rfl⟩
abbrev main_cst_27 : Ref sig .tc := ⟨.hbm, 241, rfl⟩
abbrev main_v183 : Ref sig .tc := ⟨.hbm, 242, rfl⟩
abbrev main_v184 : Ref sig .tc := ⟨.hbm, 243, rfl⟩
abbrev main_v185 : Ref sig .tc := ⟨.hbm, 244, rfl⟩
abbrev main_cst_28 : Ref sig .tc := ⟨.hbm, 245, rfl⟩
abbrev main_v186 : Ref sig .tc := ⟨.hbm, 246, rfl⟩
abbrev main_v187 : Ref sig .tc := ⟨.hbm, 247, rfl⟩
abbrev main_v188 : Ref sig .tc := ⟨.hbm, 248, rfl⟩
abbrev main_v189 : Ref sig .tc := ⟨.hbm, 249, rfl⟩
abbrev main_v190 : Ref sig .tc := ⟨.hbm, 250, rfl⟩
abbrev main_v191 : Ref sig .tc := ⟨.hbm, 251, rfl⟩
abbrev main_v192 : Ref sig .tc := ⟨.hbm, 252, rfl⟩
abbrev main_cst_29 : Ref sig .tc := ⟨.hbm, 253, rfl⟩
abbrev main_v193 : Ref sig .tc := ⟨.hbm, 254, rfl⟩
abbrev main_v194 : Ref sig .tc := ⟨.hbm, 255, rfl⟩
abbrev main_v195 : Ref sig .tc := ⟨.hbm, 256, rfl⟩
abbrev main_cst_30 : Ref sig .tc := ⟨.hbm, 257, rfl⟩
abbrev main_v196 : Ref sig .tc := ⟨.hbm, 258, rfl⟩
abbrev main_v197 : Ref sig .tc := ⟨.hbm, 259, rfl⟩
abbrev main_v198 : Ref sig .tc := ⟨.hbm, 260, rfl⟩
abbrev main_call7_v0 : Ref sig .tc := ⟨.hbm, 261, rfl⟩
abbrev main_call7_cst : Ref sig .tc := ⟨.hbm, 262, rfl⟩
abbrev main_call7_c : Ref sig .tc := ⟨.hbm, 263, rfl⟩
abbrev main_call7_v1_0 : Ref sig .tc := ⟨.hbm, 264, rfl⟩
abbrev main_v199 : Ref sig .tc := ⟨.hbm, 265, rfl⟩
abbrev main_v200 : Ref sig .tc := ⟨.hbm, 266, rfl⟩
abbrev main_v201 : Ref sig .tc := ⟨.hbm, 267, rfl⟩
abbrev main_v202 : Ref sig .tc := ⟨.hbm, 268, rfl⟩
abbrev main_v203 : Ref sig .tc := ⟨.hbm, 269, rfl⟩
abbrev main_v204 : Ref sig .tc := ⟨.hbm, 270, rfl⟩
abbrev main_v205 : Ref sig .tc := ⟨.hbm, 271, rfl⟩
abbrev main_v206 : Ref sig .tc := ⟨.hbm, 272, rfl⟩
abbrev main_v207 : Ref sig .tc := ⟨.hbm, 273, rfl⟩
abbrev main_v208 : Ref sig .tc := ⟨.hbm, 274, rfl⟩
abbrev main_v209 : Ref sig .tc := ⟨.hbm, 275, rfl⟩

abbrev nD : Nat := 1
abbrev τ : Topo := Topo.v7x

variable {F : FTy → Type} [FloatOps F]
-- ==== Proof.Least.lean ====
/- The first position of a least value, and the two ways the programs find it: the least value first and then the least
   position that attains it, or one fold over pairs of a value and its position. -/
module

public import Idealize.ShloMosaic.PureOps
public import Idealize.ShloMosaic.PureOps.Reduce
public import Idealize.ShloMosaic.PureOps.Ideal
public import Idealize.ShloMosaic.PureOps.Ideal.Laws

@[expose] public section

noncomputable section

namespace Cert.Least

open Idealize.ShloMosaic

/-- `K` is the first of 1024 positions at which `f` is least. -/
structure IsFirst (f : Fin 1024 → EReal) (K : Fin 1024) : Prop where
  least : ∀ j, f K ≤ f j
  first : ∀ k, (∀ j, f k ≤ f j) → K ≤ k

theorem exists_isFirst (f : Fin 1024 → EReal) : ∃ K, IsFirst f K := by
  classical
  obtain ⟨k₀, -, h₀⟩ := Finset.exists_min_image Finset.univ f ⟨0, Finset.mem_univ 0⟩
  let S : Finset (Fin 1024) := Finset.univ.filter fun k => ∀ j, f k ≤ f j
  have hS : S.Nonempty := ⟨k₀, Finset.mem_filter.2 ⟨Finset.mem_univ _, fun j => h₀ j (Finset.mem_univ j)⟩⟩
  exact ⟨S.min' hS, (Finset.mem_filter.1 (S.min'_mem hS)).2,
    fun k hk => S.min'_le k (Finset.mem_filter.2 ⟨Finset.mem_univ k, hk⟩)⟩

/-- The first least position depends only on how the values compare. -/
theorem IsFirst.of_le_iff {f g : Fin 1024 → EReal} (h : ∀ k j, f k ≤ f j ↔ g k ≤ g j) {K : Fin 1024} (hK : IsFirst f K) :
    IsFirst g K :=
  ⟨fun j => (h K j).1 (hK.least j), fun k hk => hK.first k fun j => (h k j).2 (hk j)⟩

theorem word_toInt (k : Fin 1024) : (BitVec.ofNat 32 k.val).toInt = (k.val : Int) := by
  have := k.isLt
  rw [BitVec.toInt_eq_toNat_of_lt (by rw [BitVec.toNat_ofNat]; omega), BitVec.toNat_ofNat]; omega

theorem minsi_toInt (x y : BitVec 32) : (IntOp.minsi x y).toInt = min x.toInt y.toInt := by
  unfold IntOp.minsi
  rw [BitVec.slt]
  split <;> rename_i h <;> simp only [decide_eq_true_eq] at h <;> omega

/-- Position words kept where the value is at most the least value, 1024 elsewhere: their least is the first least position. -/
theorem fold_select_eq {f : Fin 1024 → EReal} {K : Fin 1024} (hK : IsFirst f K) (w : Fin 1024 → BitVec 32)
    (hw : ∀ k, w k = if f k ≤ Finset.univ.fold min ⊤ f then BitVec.ofNat 32 k.val else 1024#32) :
    Finset.univ.fold IntOp.minsi 2147483647#32 w = BitVec.ofNat 32 K.val := by
  have hmin : ∀ k, f k ≤ Finset.univ.fold min ⊤ f ↔ ∀ j, f k ≤ f j := fun k => by
    rw [Finset.le_fold_min]; simp
  have hwK : w K = BitVec.ofNat 32 K.val := by rw [hw, if_pos ((hmin K).2 hK.least)]
  have hle : ∀ k, (K.val : Int) ≤ (w k).toInt := fun k => by
    rw [hw]
    split
    · rename_i h
      rw [word_toInt]
      exact_mod_cast hK.first k ((hmin k).1 h)
    · have := K.isLt
      have e : (1024#32 : BitVec 32).toInt = 1024 := by decide
      omega
  apply BitVec.eq_of_toInt_eq
  rw [word_toInt]
  have e := Finset.fold_hom (op := IntOp.minsi (w := 32)) (op' := (min : Int → Int → Int)) (m := BitVec.toInt)
    (b := 2147483647#32) (f := w) (s := Finset.univ) minsi_toInt
  rw [← e]
  apply le_antisymm
  · rw [Finset.fold_min_le]
    exact .inr ⟨K, Finset.mem_univ K, by rw [hwK, word_toInt]⟩
  · rw [Finset.le_fold_min]
    refine ⟨?_, fun k _ => hle k⟩
    have e : (2147483647#32 : BitVec 32).toInt = 2147483647 := by decide
    have := K.isLt
    omega

/-- A value no greater, and at equal values a position no later. -/
def NoLater (a b : EReal × BitVec 32) : Prop := a.1 < b.1 ∨ a.1 = b.1 ∧ a.2.toInt ≤ b.2.toInt

theorem NoLater.rfl' (a : EReal × BitVec 32) : NoLater a a := .inr ⟨rfl, le_refl _⟩

theorem NoLater.trans {a b c : EReal × BitVec 32} (h : NoLater a b) (h' : NoLater b c) : NoLater a c := by
  unfold NoLater at *
  rcases h with h | ⟨h, i⟩ <;> rcases h' with h' | ⟨h', i'⟩
  · exact .inl (h.trans h')
  · exact .inl (h' ▸ h)
  · exact .inl (h ▸ h')
  · exact .inr ⟨h.trans h', i.trans i'⟩

theorem NoLater.antisymm {a b : EReal × BitVec 32} (h : NoLater a b) (h' : NoLater b a) : a = b := by
  unfold NoLater at *
  rcases h with h | ⟨h, i⟩ <;> rcases h' with h' | ⟨h', i'⟩
  · exact absurd h' h.asymm
  · exact absurd h (h' ▸ lt_irrefl _)
  · exact absurd h' (h ▸ lt_irrefl _)
  · exact Prod.ext h (BitVec.eq_of_toInt_eq (le_antisymm i i'))

/-- A fold whose step keeps one of its two pairs, one no later than either, ends at a pair of the list (or the first) that
    is no later than any. -/
theorem foldl_noLater {step : EReal × BitVec 32 → EReal × BitVec 32 → EReal × BitVec 32}
    (hstep : ∀ a b, (step a b = a ∨ step a b = b) ∧ NoLater (step a b) a ∧ NoLater (step a b) b) :
    ∀ (l : List (EReal × BitVec 32)) (a : EReal × BitVec 32),
      (l.foldl step a ∈ a :: l) ∧ ∀ x ∈ a :: l, NoLater (l.foldl step a) x
  | [], a => ⟨List.mem_cons_self, fun x hx => by
      rw [List.mem_singleton.1 hx]; exact NoLater.rfl' a⟩
  | b :: l, a => by
      obtain ⟨hm, hl⟩ := foldl_noLater hstep l (step a b)
      obtain ⟨hc, ha, hb⟩ := hstep a b
      rw [List.foldl_cons]
      refine ⟨?_, fun x hx => ?_⟩
      · rcases List.mem_cons.1 hm with h | h
        · rcases hc with c | c <;> rw [h, c] <;> simp
        · exact List.mem_cons_of_mem _ (List.mem_cons_of_mem _ h)
      · have hs := hl _ List.mem_cons_self
        rcases List.mem_cons.1 hx with rfl | hx
        · exact hs.trans ha
        · rcases List.mem_cons.1 hx with rfl | hx
          · exact hs.trans hb
          · exact hl x (List.mem_cons_of_mem _ hx)

/-- Over the pairs of a value and its position, from the pair of `⊤` and position zero, such a fold ends at the first
    least position. -/
theorem foldl_pairs_eq {step : EReal × BitVec 32 → EReal × BitVec 32 → EReal × BitVec 32}
    (hstep : ∀ a b, (step a b = a ∨ step a b = b) ∧ NoLater (step a b) a ∧ NoLater (step a b) b)
    {f : Fin 1024 → EReal} {K : Fin 1024} (hK : IsFirst f K) (l : List (EReal × BitVec 32))
    (hl : ∀ x, x ∈ l ↔ ∃ k : Fin 1024, x = (f k, BitVec.ofNat 32 k.val)) :
    l.foldl step (⊤, 0#32) = (f K, BitVec.ofNat 32 K.val) := by
  obtain ⟨hm, hle⟩ := foldl_noLater hstep l (⊤, 0#32)
  refine (hle _ (List.mem_cons_of_mem _ ((hl _).2 ⟨K, rfl⟩))).antisymm ?_
  rcases List.mem_cons.1 hm with h | h
  · rw [h]
    rcases lt_or_eq_of_le (le_top : f K ≤ ⊤) with hlt | heq
    · exact .inl hlt
    · refine .inr ⟨heq, ?_⟩
      have h0 := hK.first 0 fun j => by
        have := hK.least j
        rw [heq, top_le_iff] at this
        rw [this]; exact le_top
      rw [word_toInt]
      have : K.val ≤ 0 := h0
      have e : (0#32 : BitVec 32).toInt = 0 := by decide
      change (K.val : Int) ≤ (0#32 : BitVec 32).toInt
      omega
  · obtain ⟨k, hk⟩ := (hl _).1 h
    rw [hk]
    rcases lt_or_eq_of_le (hK.least k) with hlt | heq
    · exact .inl hlt
    · refine .inr ⟨heq, ?_⟩
      have h0 : K ≤ k := hK.first k fun j => heq ▸ hK.least j
      change (BitVec.ofNat 32 K.val).toInt ≤ (BitVec.ofNat 32 k.val).toInt
      rw [word_toInt, word_toInt]
      exact_mod_cast h0

end Cert.Least
-- ==== Proof.Distance.lean ====
/- Squared distances over the extended reals. With every codeword entry finite, taking a distance's clamp at zero and its root
   changes no comparison: either the vector is finite too and each squared distance is a sum of squares, or one of its entries
   is infinite and each squared distance is one of the two infinities. -/
module

public import Idealize.ShloMosaic.PureOps.Ideal

@[expose] public section

noncomputable section

namespace Cert.Distance

open Idealize.ShloMosaic

/-- ‖z‖² + ‖c‖² − 2 c·z. -/
def sq (z c : Fin 32 → EReal) : EReal := (∑ d, z d * z d) + (∑ d, c d * c d) - 2 * ∑ d, c d * z d

/-- The clamp at zero, then the root. -/
def root (x : EReal) : EReal := Ideal.sqrt (max x 0)

theorem root_top : root ⊤ = ⊤ := by unfold root; rw [max_eq_left le_top]; rfl

theorem root_coe {r : ℝ} (h : 0 ≤ r) : root (r : EReal) = (Real.sqrt r : EReal) := by
  unfold root
  rw [max_eq_left (by exact_mod_cast h)]
  change (if r < 0 then (⊥ : EReal) else (Real.sqrt r : EReal)) = _
  rw [if_neg (not_lt.2 h)]

theorem root_bot : root ⊥ = 0 := by
  have h : root ((0 : ℝ) : EReal) = (Real.sqrt 0 : EReal) := root_coe le_rfl
  rw [Real.sqrt_zero] at h
  unfold root at *
  rw [max_eq_right bot_le]
  rwa [EReal.coe_zero, max_self] at h

/-- The root keeps the order of values that are not negative. -/
theorem root_le_iff {r s : ℝ} (hr : 0 ≤ r) (hs : 0 ≤ s) : root r ≤ root s ↔ (r : EReal) ≤ s := by
  rw [root_coe hr, root_coe hs, EReal.coe_le_coe_iff, EReal.coe_le_coe_iff]
  exact Real.sqrt_le_sqrt_iff hs

/-- It keeps the order of the two infinities. -/
theorem root_le_iff_of_infinite {x y : EReal} (hx : x = ⊤ ∨ x = ⊥) (hy : y = ⊤ ∨ y = ⊥) : root x ≤ root y ↔ x ≤ y := by
  rcases hx with rfl | rfl <;> rcases hy with rfl | rfl <;> simp [root_top, root_bot]

theorem mul_self_nonneg' (x : EReal) : 0 ≤ x * x := by
  rcases le_total 0 x with h | h
  · exact mul_nonneg h h
  · have h' : 0 ≤ -x := by simpa using EReal.neg_le_neg_iff.2 h
    have := mul_nonneg h' h'
    simpa using this

theorem sum_coe (f : Fin 32 → ℝ) : ∑ d, (f d : EReal) = ((∑ d, f d : ℝ) : EReal) := by
  induction (Finset.univ : Finset (Fin 32)) using Finset.cons_induction with
  | empty => simp
  | cons a S ha ih => rw [Finset.sum_cons, Finset.sum_cons, ih, EReal.coe_add]

/-- A finite vector's squared distance is a sum of squares. -/
theorem sq_coe (z c : Fin 32 → ℝ) :
    sq (fun d => (z d : EReal)) (fun d => (c d : EReal)) = ((∑ d, (z d - c d) ^ 2 : ℝ) : EReal) := by
  unfold sq
  have two : (2 : EReal) = ((2 : ℝ) : EReal) := rfl
  simp only [two, ← EReal.coe_mul, sum_coe, ← EReal.coe_add, ← EReal.coe_sub]
  congr 1
  rw [← Finset.sum_add_distrib, Finset.mul_sum, ← Finset.sum_sub_distrib]
  exact Finset.sum_congr rfl fun d _ => by ring

/-- A vector with an infinite entry has an infinite squared norm. -/
theorem norm_top {z : Fin 32 → EReal} {d : Fin 32} (h : z d = ⊤ ∨ z d = ⊥) : ∑ d, z d * z d = ⊤ := by
  have hd : z d * z d = ⊤ := by rcases h with h | h <;> rw [h] <;> rfl
  have := Finset.single_le_sum (f := fun d => z d * z d) (fun d _ => mul_self_nonneg' (z d)) (Finset.mem_univ d)
  rw [hd] at this
  exact top_le_iff.1 this

/-- Its squared distance to a finite codeword is infinite, of either sign. -/
theorem sq_infinite {z : Fin 32 → EReal} {d : Fin 32} (h : z d = ⊤ ∨ z d = ⊥) (c : Fin 32 → ℝ) :
    sq z (fun d => (c d : EReal)) = ⊤ ∨ sq z (fun d => (c d : EReal)) = ⊥ := by
  unfold sq
  rw [norm_top h]
  simp only [← EReal.coe_mul, sum_coe, EReal.top_add_coe]
  generalize (2 * ∑ d, (c d : EReal) * z d : EReal) = w
  induction w with
  | bot => left; rfl
  | coe r => left; exact EReal.top_sub_coe r
  | top => right; rfl

/-- Finite codewords: the roots of two squared distances compare as the squared distances do. -/
theorem root_sq_le_iff (z : Fin 32 → EReal) {c c' : Fin 32 → EReal}
    (hc : ∀ d, c d ≠ ⊤ ∧ c d ≠ ⊥) (hc' : ∀ d, c' d ≠ ⊤ ∧ c' d ≠ ⊥) :
    root (sq z c) ≤ root (sq z c') ↔ sq z c ≤ sq z c' := by
  have e : ∀ {x : Fin 32 → EReal}, (∀ d, x d ≠ ⊤ ∧ x d ≠ ⊥) → ∃ y : Fin 32 → ℝ, x = fun d => (y d : EReal) := fun {x} hx =>
    ⟨fun d => (x d).toReal, funext fun d => (EReal.coe_toReal (hx d).1 (hx d).2).symm⟩
  obtain ⟨c, rfl⟩ := e hc
  obtain ⟨c', rfl⟩ := e hc'
  by_cases hz : ∀ d, z d ≠ ⊤ ∧ z d ≠ ⊥
  · obtain ⟨z, rfl⟩ := e hz
    rw [sq_coe, sq_coe]
    exact root_le_iff (Finset.sum_nonneg fun d _ => sq_nonneg _) (Finset.sum_nonneg fun d _ => sq_nonneg _)
  · obtain ⟨d, hd⟩ := not_forall.1 hz
    have hd : z d = ⊤ ∨ z d = ⊥ := by tauto
    exact root_le_iff_of_infinite (sq_infinite hd c) (sq_infinite hd c')

end Cert.Distance
-- ==== Proof.Nearest.lean ====
/- What both programs compute at a position of the result: the first codeword at the least squared distance from a vector. -/
module

public import proofs.«01_k».proof.Proof.Least
public import proofs.«01_k».proof.Proof.Distance
public import Idealize.ShloMosaic.PureOps.Ideal.Laws

@[expose] public section

noncomputable section

namespace Cert.Nearest

open Idealize.ShloMosaic
open Cert.Least Cert.Distance

/-- The word of the first codeword at the least squared distance from `z`. -/
def nearest (z : Fin 32 → EReal) (c : Fin 1024 → Fin 32 → EReal) : BitVec 32 :=
  BitVec.ofNat 32 (Classical.choose (exists_isFirst fun k => sq z (c k))).val

theorem nearest_spec (z : Fin 32 → EReal) (c : Fin 1024 → Fin 32 → EReal) :
    ∃ K : Fin 1024, IsFirst (fun k => sq z (c k)) K ∧ nearest z c = BitVec.ofNat 32 K.val :=
  ⟨_, Classical.choose_spec (exists_isFirst fun k => sq z (c k)), rfl⟩

/-- The word `0x40000000` is two. -/
theorem word_two : Ideal.ofBits .f32 0x40000000#32 = 2 := by
  have h : Ideal.ofBits .f32 0x40000000#32 = ((2 : ℝ) : EReal) := by
    simp [Ideal.ofBits, Ideal.ieee, -EReal.coe_mul]; norm_num
  rw [h]; norm_cast

/-- The word `0x7F800000` is the top. -/
theorem word_top : Ideal.ofBits .f32 0x7F800000#32 = ⊤ := by
  simp [Ideal.ofBits, Ideal.ieee]

end Cert.Nearest
-- ==== Proof.KernelBook.lean ====
/- The kernel's search in one codebook. The eight stores of a block's body carry the same computation at eight slices
   of its vectors and eight codebooks: `bookIdx`. Read at a position it is the first codeword at the least
   squared distance. -/
module

public import proofs.«01_k».proof.Proof.Gen.KernelIdeal.Frame
public import proofs.«01_k».proof.Proof.Nearest
public import Idealize.ShloMosaic.Lib.Pointwise
public import Idealize.ShloMosaic.Lib.Pipeline.ValueKit.Tiles

@[expose] public section

set_option maxRecDepth 16384

noncomputable section

namespace Cert.KernelBook

open Idealize.ShloMosaic
open Cert.KernelIdeal Cert.KernelIdeal.Gen
open Cert.Least Cert.Distance Cert.Nearest

section
variable {F : FTy → Type} [FloatOps F]

/-- The squared distances of the vectors, columns of `z`, to the codewords, rows of `cb`. -/
def dist2 (z : FVec F S32x512 .f32) (cb : FVec F S1024x32 .f32) : FVec F S1024x512 .f32 :=
  subf
    (addf
      (broadcastTo S1024x512
        (shapeCast S1x512 (multiReduction .add [0] S512 (mulf z z) 0x00000000#32 reduces_S32x512_S512 (.inl rfl) rfl)
          shapeCasts_S512_S1x512)
        broadcasts_S1x512_S1024x512)
      (broadcastTo S1024x512
        (shapeCast S1024x1 (multiReduction .add [1] S1024 (mulf cb cb) 0x00000000#32 reduces_S1024x32_S1024 (.inl rfl) rfl)
          shapeCasts_S1024_S1024x1)
        broadcasts_S1024x1_S1024x512))
    (mulf (broadcast S1024x512 (Scalar.ofBits .f32 0x40000000#32))
      (matmul dot_S1024x32_S32x512_S1024x512_1_0_0_1_n_n none cb z (constant S1024x512 .f32 0x00000000#32)))

/-- The least of the positions at which a column of `d` is at most its least value. -/
def firstLeast (d : FVec F S1024x512 .f32) : IVec S1x1x512 32 :=
  shapeCast S1x1x512
    (multiReductionI .minsi [0] S512
      (select
        (cmpf .ole d
          (broadcastTo S1024x512
            (shapeCast S1x512 (multiReduction .minimumf [0] S512 d 0x7F800000#32 reduces_S1024x512_S512 (.inl rfl) rfl)
              shapeCasts_S512_S1x512)
            broadcasts_S1x512_S1024x512))
        (iota .tc S1024x512 32 [0] iota_S1024x512_d0_w32) (broadcast S1024x512 1024#32))
      2147483647#32 reduces_S1024x512_S512 rfl)
    shapeCasts_S512_S1x1x512

/-- One search, over the codebook's slab as loaded. -/
def bookIdx (z : FVec F S32x512 .f32) (cb : FVec F S1x1024x32 .f32) : IVec S1x1x512 32 :=
  firstLeast (dist2 z (shapeCast S1024x32 cb shapeCasts_S1x1024x32_S1024x32))

/-- The body's stores, last first: store `i` is the search of rows `32 i … 32 i + 31` of the block in codebook `i`. -/
theorem out_eq (x0 : Vec F S1x256x512 .f32) (x1 : Vec F S8x1024x32 .f32) :
    out0_2 x0 x1 = View.canon
      [⟨r0_16, bookIdx (extractStridedSlice S32x512 ![224, 0] (k0_pay2 (View.ld x0 r0_0)) slices_S256x512_o224_0_S32x512) (View.ld x1 r0_15)⟩,
       ⟨r0_14, bookIdx (extractStridedSlice S32x512 ![192, 0] (k0_pay2 (View.ld x0 r0_0)) slices_S256x512_o192_0_S32x512) (View.ld x1 r0_13)⟩,
       ⟨r0_12, bookIdx (extractStridedSlice S32x512 ![160, 0] (k0_pay2 (View.ld x0 r0_0)) slices_S256x512_o160_0_S32x512) (View.ld x1 r0_11)⟩,
       ⟨r0_10, bookIdx (extractStridedSlice S32x512 ![128, 0] (k0_pay2 (View.ld x0 r0_0)) slices_S256x512_o128_0_S32x512) (View.ld x1 r0_9)⟩,
       ⟨r0_8, bookIdx (extractStridedSlice S32x512 ![96, 0] (k0_pay2 (View.ld x0 r0_0)) slices_S256x512_o96_0_S32x512) (View.ld x1 r0_7)⟩,
       ⟨r0_6, bookIdx (extractStridedSlice S32x512 ![64, 0] (k0_pay2 (View.ld x0 r0_0)) slices_S256x512_o64_0_S32x512) (View.ld x1 r0_5)⟩,
       ⟨r0_4, bookIdx (extractStridedSlice S32x512 ![32, 0] (k0_pay2 (View.ld x0 r0_0)) slices_S256x512_o32_0_S32x512) (View.ld x1 r0_3)⟩,
       ⟨r0_2, bookIdx (extractStridedSlice S32x512 ![0, 0] (k0_pay2 (View.ld x0 r0_0)) slices_S256x512_o0_0_S32x512) (View.ld x1 r0_1)⟩] := by
  rfl

end

/-- A squared distance, read. -/
theorem dist2_apply (z : FVec Ideal S32x512 .f32) (cb : FVec Ideal S1024x32 .f32) (k : Fin 1024) (t : Fin 512) :
    dist2 z cb (ix2 k t) = sq (fun d => z (ix2 d t)) (fun d => cb (ix2 k d)) := by
  pointwise [dist2]
  rw [word_two]
  rfl

/-- The position found, read. -/
theorem firstLeast_apply (d : FVec Ideal S1024x512 .f32) (j : S1x1x512.Idx) {K : Fin 1024}
    (hK : IsFirst (fun k => d (ix2 k (j 2))) K) : firstLeast d j = BitVec.ofNat 32 K.val := by
  idx_vars j
  pointwise [firstLeast]
  rw [word_top]
  exact fold_select_eq hK _ fun _ => rfl

/-- One search, read: column `j 2` of `z` against the codewords. -/
theorem bookIdx_apply (z : FVec Ideal S32x512 .f32) (cb : FVec Ideal S1x1024x32 .f32) (j : S1x1x512.Idx) :
    bookIdx z cb j = nearest (fun d => z (ix2 d (j 2))) (fun k d => cb (ix3 0 k d)) := by
  obtain ⟨K, hK, e⟩ := nearest_spec (fun d => z (ix2 d (j 2))) (fun k d => cb (ix3 0 k d))
  rw [e]
  refine firstLeast_apply _ j ?_
  convert hK using 2 with k
  refine (dist2_apply z _ k (j 2)).trans (congrArg _ (funext fun d => ?_))
  pointwise

/-- The search of store `i`: rows `32 i … 32 i + 31` of the block against codebook `i`. -/
theorem store_apply (x0 : Vec Ideal S1x256x512 .f32) (x1 : Vec Ideal S8x1024x32 .f32) (i : Fin 8)
    (hs : S256x512.Slices ![32 * i.val, 0] S32x512)
    (inb : ∀ a, (![i.val, 0, 0] : Fin 3 → Nat) a + S1x1024x32.size a ≤ S8x1024x32.size a) (j : S1x1x512.Idx) :
    bookIdx (extractStridedSlice S32x512 ![32 * i.val, 0] (k0_pay2 (View.ld x0 r0_0)) hs)
        (View.ld x1 (Rect.unit (s := S8x1024x32) ![i.val, 0, 0] S1x1024x32.size inb)) j
      = nearest (fun d => x0 (ix3 0 ⟨32 * i.val + d.val, by omega⟩ (j 2))) (fun k d => x1 (ix3 i k d)) := by
  rw [bookIdx_apply]
  congr 1
  · funext d
    have hz : (![0, 0, 0] : Fin 3 → Nat) = fun _ => 0 := funext fun a => by fin_cases a <;> rfl
    rw [show View.ld x0 r0_0 = x0 from View.ld_unit_zero hz _ x0]
    unfold k0_pay2
    pointwise
  · funext k d
    refine View.ld_unit_apply_of x1 _ _ inb (ix3 0 k d) (ix3 i k d) fun a => ?_
    match a with
    | ⟨0, _⟩ => rfl
    | ⟨1, _⟩ => exact (Nat.zero_add _).symm
    | ⟨2, _⟩ => exact (Nat.zero_add _).symm

/-- The block the body leaves, read. -/
theorem out_apply (x0 : Vec Ideal S1x256x512 .f32) (x1 : Vec Ideal S8x1024x32 .f32) (y : S1x8x512.Idx) :
    out0_2 x0 x1 y
      = nearest (fun d => x0 (ix3 0 ⟨32 * (y 1).val + d.val, by have h : (y 1).val < 8 := (y 1).isLt; omega⟩ (y 2)))
          (fun k d => x1 (ix3 (y 1) k d)) := by
  rw [out_eq]
  refine View.canon_eq_of_allAt _ y _ (cover0_2 _ _ _ _ _ _ _ _ y) ?_
  have at_store (i : Fin 8) (hs : S256x512.Slices ![32 * i.val, 0] S32x512)
      (inb : ∀ a, (![i.val, 0, 0] : Fin 3 → Nat) a + S1x1024x32.size a ≤ S8x1024x32.size a) :
      View.TileAt (Val := Elt Ideal) (e := .i32) y (![0, i.val, 0] : Fin 3 → Nat) S1x1x512.size
        (bookIdx (extractStridedSlice S32x512 ![32 * i.val, 0] (k0_pay2 (View.ld x0 r0_0)) hs)
          (View.ld x1 (Rect.unit (s := S8x1024x32) ![i.val, 0, 0] S1x1024x32.size inb)))
        (nearest (fun d => x0 (ix3 0 ⟨32 * (y 1).val + d.val, by have h : (y 1).val < 8 := (y 1).isLt; omega⟩ (y 2)))
          (fun k d => x1 (ix3 (y 1) k d))) := by
    intro x hx
    have h1 : y 1 = i := Fin.ext (by
      have e : (y 1).val = i.val + (x 1).val := hx 1
      have : (x 1).val < 1 := (x 1).isLt
      omega)
    have h2 : y 2 = x 2 := Fin.ext (by have e : (y 2).val = 0 + (x 2).val := hx 2; omega)
    refine (store_apply x0 x1 i hs inb x).trans ?_
    rw [h2]
    subst h1
    rfl
  refine View.allAt_cons_unit _ _ _ _ _ (at_store 7 _ _) (View.allAt_cons_unit _ _ _ _ _ (at_store 6 _ _)
    (View.allAt_cons_unit _ _ _ _ _ (at_store 5 _ _) (View.allAt_cons_unit _ _ _ _ _ (at_store 4 _ _)
    (View.allAt_cons_unit _ _ _ _ _ (at_store 3 _ _) (View.allAt_cons_unit _ _ _ _ _ (at_store 2 _ _)
    (View.allAt_cons_unit _ _ _ _ _ (at_store 1 _ _) (View.allAt_cons_unit _ _ _ _ _ (at_store 0 _ _)
    (View.allAt_nil y _))))))))

end Cert.KernelBook
-- ==== Proof.KernelValue.lean ====
/- The kernel's result array. What each grid point writes back is its block of `nearestOf`, and the blocks tile the array. -/
module

public import proofs.«01_k».proof.Proof.KernelBook
public import proofs.«01_k».proof.Proof.Gen.KernelIdeal.Value

@[expose] public section

set_option maxRecDepth 16384

noncomputable section

namespace Cert.KernelValue

open Idealize.ShloMosaic Idealize.ShloMosaic.TcCoe Idealize.SL.Sem
open Idealize.ShloMosaic.Pipeline (Dat)
open Cert.KernelIdeal Cert.KernelIdeal.Gen
open Cert.Nearest Cert.KernelBook

/-- At `(b, i, t)`: the codeword of codebook `i` nearest to channels `32 i … 32 i + 31` of position `t` of batch `b`. -/
def nearestOf (z : FVec Ideal S8x256x2048 .f32) (cb : FVec Ideal S8x1024x32 .f32) : IVec S8x8x2048 32 := fun j =>
  nearest (fun d => z (ix3 (j 0) ⟨32 * (j 1).val + d.val, by have h : (j 1).val < 8 := (j 1).isLt; omega⟩ (j 2)))
    (fun k d => cb (ix3 (j 1) k d))

variable (m : (ℓ : Loc nD τ sig) → Buf (Elt Ideal) ℓ) (ρ : Dev nD → PrngReg)

/-- `nearestOf` of device `c`'s arguments. -/
abbrev G (c : Dev nD) : Buf (Elt Ideal) ((c : Thread nD τ).loc main_v0) :=
  nearestOf (m ((c : Thread nD τ).loc main_arg0)) (m ((c : Thread nD τ).loc main_arg1))

/-- Where point `t`'s blocks sit: the vectors' block moves with the result's, the codebooks' is the whole array. -/
theorem places : ∀ t : Fin cfg0.N,
    (win0_0.index t 0 * 1 = t.val / 4 ∧ win0_0.index t 1 * 256 = 0 ∧ win0_0.index t 2 * 512 = t.val % 4 * 512)
    ∧ (win0_1.index t 0 * 8 = 0 ∧ win0_1.index t 1 * 1024 = 0 ∧ win0_1.index t 2 * 32 = 0)
    ∧ (win0_2.index t 0 * 1 = t.val / 4 ∧ win0_2.index t 1 * 8 = 0 ∧ win0_2.index t 2 * 512 = t.val % 4 * 512) :=
  (by decide +kernel : ∀ t : Fin grid0.N,
    (win0_0.index t 0 * 1 = t.val / 4 ∧ win0_0.index t 1 * 256 = 0 ∧ win0_0.index t 2 * 512 = t.val % 4 * 512)
    ∧ (win0_1.index t 0 * 8 = 0 ∧ win0_1.index t 1 * 1024 = 0 ∧ win0_1.index t 2 * 32 = 0)
    ∧ (win0_2.index t 0 * 1 = t.val / 4 ∧ win0_2.index t 1 * 8 = 0 ∧ win0_2.index t 2 * 512 = t.val % 4 * 512))

theorem sizes : ∀ t : Fin cfg0.N,
    win0_2.xsize (grid0.coords t) 0 = 1 ∧ win0_2.xsize (grid0.coords t) 1 = 8 ∧ win0_2.xsize (grid0.coords t) 2 = 512 :=
  (by decide +kernel : ∀ t : Fin grid0.N,
    win0_2.xsize (grid0.coords t) 0 = 1 ∧ win0_2.xsize (grid0.coords t) 1 = 8 ∧ win0_2.xsize (grid0.coords t) 2 = 512)

/-- The vectors' block at point `t`, read. -/
theorem vectors_apply (c : Dev nD) (t : Fin cfg0.N) (b : Fin 8) (hb : b.val = t.val / 4) (ch : Fin 256) (s : Fin 512)
    (p : Fin 2048) (hp : p.val = t.val % 4 * 512 + s.val) :
    (iblk m c 0 t : S1x256x512.Idx → EReal) (ix3 0 ch s) = m ((c : Thread nD τ).loc main_arg0) (ix3 b ch p) := by
  obtain ⟨⟨e0, e1, e2⟩, -, -⟩ := places t
  refine congrArg (m ((c : Thread nD τ).loc main_arg0)) (funext fun a => Fin.ext ?_)
  match a with
  | ⟨0, _⟩ => show win0_0.index t 0 * 1 + 1 * 0 = b.val
              omega
  | ⟨1, _⟩ => show win0_0.index t 1 * 256 + 1 * ch.val = ch.val
              omega
  | ⟨2, _⟩ => show win0_0.index t 2 * 512 + 1 * s.val = p.val
              omega

/-- The codebooks' block at point `t`, read. -/
theorem codebooks_apply (c : Dev nD) (t : Fin cfg0.N) (i : Fin 8) (k : Fin 1024) (d : Fin 32) :
    (iblk m c 1 t : S8x1024x32.Idx → EReal) (ix3 i k d) = m ((c : Thread nD τ).loc main_arg1) (ix3 i k d) := by
  obtain ⟨-, ⟨e0, e1, e2⟩, -⟩ := places t
  refine congrArg (m ((c : Thread nD τ).loc main_arg1)) (funext fun a => Fin.ext ?_)
  match a with
  | ⟨0, _⟩ => show win0_1.index t 0 * 8 + 1 * i.val = i.val
              omega
  | ⟨1, _⟩ => show win0_1.index t 1 * 1024 + 1 * k.val = k.val
              omega
  | ⟨2, _⟩ => show win0_1.index t 2 * 32 + 1 * d.val = d.val
              omega

/-- What point `t` writes back is its block of `G`. -/
theorem flushed_eq (c : Dev nD) (t : Fin cfg0.N) :
    (dats m 0 c).flushed 2 t = ((cfg0.win 2).blk t).view.read (Elt Ideal) (G m c) := by
  rw [Value.flushed2]
  funext y
  obtain ⟨-, -, ⟨e0, e1, e2⟩⟩ := places t
  refine (out_apply (iblk m c 0 t) (iblk m c 1 t) y).trans ?_
  have hN : t.val < 32 := t.isLt
  have y0 : (y 0 : Fin 1).val < 1 := (y 0 : Fin 1).isLt
  have y1 : (y 1 : Fin 8).val < 8 := (y 1 : Fin 8).isLt
  have y2 : (y 2 : Fin 512).val < 512 := (y 2 : Fin 512).isLt
  have hi : ((cfg0.win 2).blk t).view.emb y
      = (ix3 (⟨t.val / 4, by omega⟩ : Fin 8) (y 1 : Fin 8) (⟨t.val % 4 * 512 + (y 2 : Fin 512).val, by omega⟩ : Fin 2048) : S8x8x2048.Idx) := by
    funext a
    apply Fin.ext
    match a with
    | ⟨0, _⟩ => show win0_2.index t 0 * 1 + 1 * (y 0 : Fin 1).val = t.val / 4
                omega
    | ⟨1, _⟩ => show win0_2.index t 1 * 8 + 1 * (y 1 : Fin 8).val = (y 1 : Fin 8).val
                omega
    | ⟨2, _⟩ => show win0_2.index t 2 * 512 + 1 * (y 2 : Fin 512).val = t.val % 4 * 512 + (y 2 : Fin 512).val
                omega
  show _ = G m c (((cfg0.win 2).blk t).view.emb y)
  rw [hi]
  show _ = nearest _ _
  congr 1
  · funext d
    exact vectors_apply m c t _ rfl _ _ _ rfl
  · funext k d
    exact codebooks_apply m c t _ k d

/-- An index of the result array is in point `t`'s block: one batch, every codebook, 512 positions. -/
theorem mem_blk (t : Fin cfg0.N) (j : S8x8x2048.Idx) :
    j ∈ ((cfg0.win 2).blk t).view.set
      ↔ (j 0).val = t.val / 4 ∧ t.val % 4 * 512 ≤ (j 2).val ∧ (j 2).val < t.val % 4 * 512 + 512 := by
  show j ∈ ((View.whole main_v0).slice (win0_2.rect t)).set ↔ _
  rw [View.set_slice_whole, Rect.mem_set_unit]
  obtain ⟨-, -, ⟨e0, e1, e2⟩⟩ := places t
  obtain ⟨s0, s1, s2⟩ := sizes t
  have j1 : (j 1).val < 8 := (j 1).isLt
  have at0 : (win0_2.index t 0 * 1 ≤ (j 0).val ∧ (j 0).val < win0_2.index t 0 * 1 + win0_2.xsize (grid0.coords t) 0)
      ↔ (j 0).val = t.val / 4 := by rw [s0]; omega
  have at1 : win0_2.index t 1 * 8 ≤ (j 1).val ∧ (j 1).val < win0_2.index t 1 * 8 + win0_2.xsize (grid0.coords t) 1 := by
    rw [s1]; omega
  have at2 : (win0_2.index t 2 * 512 ≤ (j 2).val ∧ (j 2).val < win0_2.index t 2 * 512 + win0_2.xsize (grid0.coords t) 2)
      ↔ t.val % 4 * 512 ≤ (j 2).val ∧ (j 2).val < t.val % 4 * 512 + 512 := by rw [s2]; omega
  refine ⟨fun h => ⟨at0.1 (h 0), at2.1 (h 2)⟩, fun h a => ?_⟩
  match a with
  | ⟨0, _⟩ => exact at0.2 h.1
  | ⟨1, _⟩ => exact at1
  | ⟨2, _⟩ => exact at2.2 h.2

/-- The blocks tile the array. -/
theorem cover (j : S8x8x2048.Idx) : ∃ t : Fin cfg0.N, (cfg0.win 2).flush t = true ∧ j ∈ ((cfg0.win 2).blk t).view.set := by
  have h0 : (j 0).val < 8 := (j 0).isLt
  have h2 : (j 2).val < 2048 := (j 2).isLt
  have hN : cfg0.N = 32 := N_0
  refine ⟨⟨(j 0).val * 4 + (j 2).val / 512, by omega⟩, flush0_2 _, ?_⟩
  rw [mem_blk]
  dsimp only
  omega

/-- So the result array ends at `G`. -/
theorem final (c : Dev nD) : (dats m 0 c).arrAt 2 cfg0.N = G m c :=
  (dats m 0 c).arrAt_eq_of_cover 2 (G m c) (fun t _ => flushed_eq m c t) cover

/-- The run, read: the result at `G`, the arguments unchanged. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.KernelValue
-- ==== Proof.RefRun.lean ====
/- The reference's run. Its program is one straight line of host operations, the search in one codebook
   eight times over, then the eight index planes stacked. `searchOf` is one of those searches as a function of the
   slice of the vectors and the slice of the codebooks it reads; `stacked` is the whole result. -/
module

public import proofs.«01_k».proof.Defs
public import proofs.«01_k».proof.Proof.Gen.ReferenceIdeal
public import Idealize.ShloMosaic.Lib.Claim
public import Idealize.ShloMosaic.Lib.Quiescent
public import Idealize.ShloMosaic.Lib.StableHlo.RunHlo
public import Idealize.ShloMosaic.Lib.StableHlo.RunRead
public import Idealize.ShloMosaic.Lib.Tactic.CleanTypes

@[expose] public section

set_option maxRecDepth 16384

noncomputable section

namespace Cert.RefRun

open Idealize.ShloMosaic Idealize.ShloMosaic.StableHlo Idealize.SL.Sem
open Cert.ReferenceIdeal Cert.ReferenceIdeal.Gen

variable {F : FTy → Type} [FloatOps F]

/-- The vectors of one group, one per row. -/
def rowsOf (z : FVec F S8x1x32x2048 .f32) : FVec F S16384x32 .f32 :=
  shapeCast S16384x32
    (transpose S8x2048x32 [0, 2, 1] (shapeCast S8x32x2048 z shapeCasts_S8x1x32x2048_S8x32x2048)
      transposes_S8x32x2048_S8x2048x32_0_2_1)
    shapeCasts_S8x2048x32_S16384x32

/-- The distances of the rows of `z` to the codewords of `cb`: ‖z‖² + ‖c‖² − 2 z·c, clamped at zero, under the root. -/
def distOf (z : FVec F S16384x32 .f32) (cb : FVec F S1024x32 .f32) : FVec F S16384x1024 .f32 :=
  Host.sqrt (maximumf
    (subf
      (addf
        (broadcastInDim S16384x1024 ![0, 1] bcast_S16384x1_S16384x1024_0_1
          (broadcastInDim S16384x1 ![0] bcast_S16384_S16384x1_0
            (Host.reduceAdd (mulf z z) (constant S_ .f32 0x00000000#32) reducesTo_S16384x32_S16384_d1 h_S_)))
        (broadcastInDim S16384x1024 ![0, 1] bcast_S1x1024_S16384x1024_0_1
          (broadcastInDim S1x1024 ![1] bcast_S1024_S1x1024_1
            (Host.reduceAdd (mulf cb cb) (constant S_ .f32 0x00000000#32) reducesTo_S1024x32_S1024_d1 h_S_))))
      (mulf (broadcastInDim S16384x1024 ![] bcast_S_S16384x1024 (constant S_ .f32 0x40000000#32))
        (Host.dotGeneral dot_S16384x32_S32x1024_S16384x1024_1_0_0_1_n_n none z
          (transpose S32x1024 [1, 0] cb transposes_S1024x32_S32x1024_1_0))))
    (broadcastInDim S16384x1024 ![] bcast_S_S16384x1024 (constant S_ .f32 0x00000000#32)))

/-- The position of each row's first minimum. -/
def firstMin (d : FVec F S16384x1024 .f32) : IVec S16384 32 :=
  Prod.snd ∘ Host.argReduce reducer_argmin_f32_i32 d (iotaInDim S16384x1024 32 1) (constant S_ .f32 0x7F800000#32)
    (constantI S_ 32 0#32) reducesTo_S16384x1024_S16384_d1 h_S_

/-- Second components, read position by position. -/
theorem snd_comp {α β γ : Type} (g : α → β × γ) : (fun j => (g j).2) = Prod.snd ∘ g := rfl

/-- One search, as a plane of the stack. -/
def searchOf (z : FVec F S8x1x32x2048 .f32) (cb : FVec F S1x1024x32 .f32) : IVec S8x1x2048 32 :=
  broadcastInDim S8x1x2048 ![0, 2] bcast_S8x2048_S8x1x2048_0_2
    (shapeCast S8x2048 (firstMin (distOf (rowsOf z) (shapeCast S1024x32 cb shapeCasts_S1x1024x32_S1024x32)))
      shapeCasts_S16384_S8x2048)

/-- The vectors by group. -/
def grouped (z : FVec F S8x256x2048 .f32) : FVec F S8x8x32x2048 .f32 :=
  shapeCast S8x8x32x2048 z shapeCasts_S8x256x2048_S8x8x32x2048

/-- The search in the codebook at offset `o'`, of the group at offset `o`. -/
def plane (z : FVec F S8x256x2048 .f32) (cb : FVec F S8x1024x32 .f32) (o : Fin 4 → Nat) (o' : Fin 3 → Nat)
    (h : S8x8x32x2048.Slices o S8x1x32x2048) (h' : S8x1024x32.Slices o' S1x1024x32) : IVec S8x1x2048 32 :=
  searchOf (extractStridedSlice S8x1x32x2048 o (grouped z) h) (extractStridedSlice S1x1024x32 o' cb h')

/-- The reference's result: the eight searches, stacked. -/
def stacked (z : FVec F S8x256x2048 .f32) (cb : FVec F S8x1024x32 .f32) : IVec S8x8x2048 32 :=
  concatenate S8x8x2048 1
    [⟨S8x1x2048, plane z cb ![0, 0, 0, 0] ![0, 0, 0] slices_S8x8x32x2048_S8x1x32x2048_0_0_0_0 slices_S8x1024x32_S1x1024x32_0_0_0⟩,
     ⟨S8x1x2048, plane z cb ![0, 1, 0, 0] ![1, 0, 0] slices_S8x8x32x2048_S8x1x32x2048_0_1_0_0 slices_S8x1024x32_S1x1024x32_1_0_0⟩,
     ⟨S8x1x2048, plane z cb ![0, 2, 0, 0] ![2, 0, 0] slices_S8x8x32x2048_S8x1x32x2048_0_2_0_0 slices_S8x1024x32_S1x1024x32_2_0_0⟩,
     ⟨S8x1x2048, plane z cb ![0, 3, 0, 0] ![3, 0, 0] slices_S8x8x32x2048_S8x1x32x2048_0_3_0_0 slices_S8x1024x32_S1x1024x32_3_0_0⟩,
     ⟨S8x1x2048, plane z cb ![0, 4, 0, 0] ![4, 0, 0] slices_S8x8x32x2048_S8x1x32x2048_0_4_0_0 slices_S8x1024x32_S1x1024x32_4_0_0⟩,
     ⟨S8x1x2048, plane z cb ![0, 5, 0, 0] ![5, 0, 0] slices_S8x8x32x2048_S8x1x32x2048_0_5_0_0 slices_S8x1024x32_S1x1024x32_5_0_0⟩,
     ⟨S8x1x2048, plane z cb ![0, 6, 0, 0] ![6, 0, 0] slices_S8x8x32x2048_S8x1x32x2048_0_6_0_0 slices_S8x1024x32_S1x1024x32_6_0_0⟩,
     ⟨S8x1x2048, plane z cb ![0, 7, 0, 0] ![7, 0, 0] slices_S8x8x32x2048_S8x1x32x2048_0_7_0_0 slices_S8x1024x32_S1x1024x32_7_0_0⟩]
    concatenates_S8x1x2048_S8x1x2048_S8x1x2048_S8x1x2048_S8x1x2048_S8x1x2048_S8x1x2048_S8x1x2048_S8x8x2048_d1

set_option maxHeartbeats 0 in
/-- The program's operations in order, read off its text. -/
def line : { ops : List (HloOp τ sig (Elt F)) // ∀ d, IsSeq (main (F := F) d) ops } :=
  by
  apply Subtype.mk
  intro d
  simp only [main, main_part0, main_part1, main_part2, main_part3, main_part4, fn_argmin.body, bind_assoc, pure_bind]
  hlo_seq

end Cert.RefRun
-- ==== Proof.RefResult.lean ====
/- What the reference's run leaves: the result buffer at `stacked` of the arguments, the arguments as they were,
   every semaphore counter at zero. -/
module

public import proofs.«01_k».proof.Proof.RefRun

@[expose] public section

set_option maxRecDepth 16384

noncomputable section

namespace Cert.RefRun

open Idealize.ShloMosaic Idealize.ShloMosaic.StableHlo Idealize.SL.Sem
open TcCoe
open Cert.ReferenceIdeal Cert.ReferenceIdeal.Gen

variable {F : FTy → Type} [FloatOps F]

/-- The stack of eight planes is `stacked` when each plane is its search. -/
theorem stacked_of_planes (z : FVec F S8x256x2048 .f32) (cb : FVec F S8x1024x32 .f32) {u : Fin 8 → IVec S8x1x2048 32}
    (h0 : u 0 = plane z cb ![0, 0, 0, 0] ![0, 0, 0] slices_S8x8x32x2048_S8x1x32x2048_0_0_0_0 slices_S8x1024x32_S1x1024x32_0_0_0)
    (h1 : u 1 = plane z cb ![0, 1, 0, 0] ![1, 0, 0] slices_S8x8x32x2048_S8x1x32x2048_0_1_0_0 slices_S8x1024x32_S1x1024x32_1_0_0)
    (h2 : u 2 = plane z cb ![0, 2, 0, 0] ![2, 0, 0] slices_S8x8x32x2048_S8x1x32x2048_0_2_0_0 slices_S8x1024x32_S1x1024x32_2_0_0)
    (h3 : u 3 = plane z cb ![0, 3, 0, 0] ![3, 0, 0] slices_S8x8x32x2048_S8x1x32x2048_0_3_0_0 slices_S8x1024x32_S1x1024x32_3_0_0)
    (h4 : u 4 = plane z cb ![0, 4, 0, 0] ![4, 0, 0] slices_S8x8x32x2048_S8x1x32x2048_0_4_0_0 slices_S8x1024x32_S1x1024x32_4_0_0)
    (h5 : u 5 = plane z cb ![0, 5, 0, 0] ![5, 0, 0] slices_S8x8x32x2048_S8x1x32x2048_0_5_0_0 slices_S8x1024x32_S1x1024x32_5_0_0)
    (h6 : u 6 = plane z cb ![0, 6, 0, 0] ![6, 0, 0] slices_S8x8x32x2048_S8x1x32x2048_0_6_0_0 slices_S8x1024x32_S1x1024x32_6_0_0)
    (h7 : u 7 = plane z cb ![0, 7, 0, 0] ![7, 0, 0] slices_S8x8x32x2048_S8x1x32x2048_0_7_0_0 slices_S8x1024x32_S1x1024x32_7_0_0) :
    concatenate S8x8x2048 1
      [⟨S8x1x2048, u 0⟩, ⟨S8x1x2048, u 1⟩, ⟨S8x1x2048, u 2⟩, ⟨S8x1x2048, u 3⟩,
       ⟨S8x1x2048, u 4⟩, ⟨S8x1x2048, u 5⟩, ⟨S8x1x2048, u 6⟩, ⟨S8x1x2048, u 7⟩]
      concatenates_S8x1x2048_S8x1x2048_S8x1x2048_S8x1x2048_S8x1x2048_S8x1x2048_S8x1x2048_S8x1x2048_S8x8x2048_d1
      = stacked z cb := by
  rw [h0, h1, h2, h3, h4, h5, h6, h7]; rfl

set_option maxHeartbeats 0 in
/-- The line's composed value at the result buffer. -/
theorem result_eq (V : Valuation τ sig (Elt F)) :
    after (line (F := F)).1 V (main_v209 : DevRef τ sig)
      = stacked (V (main_arg0 : DevRef τ sig)) (V (main_arg1 : DevRef τ sig)) := by
  after_reads_simp
  refine stacked_of_planes (u := ![_, _, _, _, _, _, _, _]) _ _ ?_ ?_ ?_ ?_ ?_ ?_ ?_ ?_
  all_goals
    dsimp only [Matrix.cons_val]
    after_reads_simp
    simp -implicitDefEqProofs only [TRef.ofBuf_toBuf, TRef.toBuf, TRef.ofBuf, cast_eq, snd_comp]
    clean_types
    simp only [plane, searchOf, firstMin, distOf, rowsOf, grouped]
    rfl

theorem arg0_eq (V : Valuation τ sig (Elt F)) :
    after (line (F := F)).1 V (main_arg0 : DevRef τ sig) = V (main_arg0 : DevRef τ sig) := by
  after_reads_simp

theorem arg1_eq (V : Valuation τ sig (Elt F)) :
    after (line (F := F)).1 V (main_arg1 : DevRef τ sig) = V (main_arg1 : DevRef τ sig) := by
  after_reads_simp

theorem isScoped_refs : (Finset.univ.filter fun b : Ref sig .tc => b.isScoped) = ∅ := by decide
theorem isScoped_sems : (Finset.univ.filter fun sm : SemLoc sig => sm.isScoped .tc) = ∅ := by decide

set_option maxHeartbeats 0 in
theorem line_sub : ((line (F := F)).1).Forall fun op => op.bufs ⊆ tcRefs τ sig := by
  simp [line]

set_option maxHeartbeats 0 in
theorem line_fresh : ∀ op ∈ (line (F := F)).1, op.fresh = ∅ := by
  intro _ h
  (repeat (cases h with | head => rfl | tail _ h => ?_)); exact nomatch h

/-- The run: the result buffer ends at `stacked` of the arguments, the arguments end as they were, and no counter moves. -/
theorem run (m : (ℓ : Loc nD τ sig) → Buf (Elt F) ℓ) (ρ : Dev nD → PrngReg) :
    θ_run (defs (F := F)) (onTc (τ := τ) (main (F := F))) ⟨m, fun _ => 0, ρ⟩ fun r =>
      (∀ c : Dev nD,
        r.2.mem ((c.tc : Thread nD τ).loc main_v209)
            = stacked (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 := by
  refine θ_run_mono (run_hlo defs main line.2 isScoped_refs isScoped_sems line_sub line_fresh m ρ) ?_
  intro r hr
  refine ⟨fun c => ⟨?_, ?_, ?_⟩, sem_eq_zero_of_no_sems rfl _⟩
  · rw [hr c main_v209, result_eq]
  · rw [hr c main_arg0, arg0_eq]
  · rw [hr c main_arg1, arg1_eq]

end Cert.RefRun
-- ==== Proof.RefValue.lean ====
/- The reference's result, read. Each search takes the first minimum of the distances, which is the first codeword at the least
   squared distance when the codewords are finite. -/
module

public import proofs.«01_k».proof.Proof.RefRun
public import proofs.«01_k».proof.Proof.Nearest
public import Idealize.ShloMosaic.Lib.Pointwise

@[expose] public section

set_option maxRecDepth 16384

noncomputable section

namespace Cert.RefValue

open Idealize.ShloMosaic
open Cert.ReferenceIdeal Cert.ReferenceIdeal.Gen
open Cert.Least Cert.Nearest Cert.RefRun

/-- The reducer of the search, by cases. -/
theorem reducer_eq (a b : EReal × BitVec 32) :
    reducer_argmin_f32_i32 (F := Ideal) a b
      = (if a.1 < b.1 then a.1 else b.1, if a.1 < b.1 ∨ a.1 = b.1 ∧ a.2.toInt < b.2.toInt then a.2 else b.2) := by
  unfold reducer_argmin_f32_i32
  simp only [Ideal.cmpf_def, Ideal.cmp, IntOp.ori, IntOp.andi, IntOp.cmpi, Scalar.select, BitVec.slt]
  by_cases h : a.1 < b.1 <;> by_cases h' : a.1 = b.1 <;> by_cases h'' : a.2.toInt < b.2.toInt <;> simp [h, h', h'']

/-- It keeps one of its two pairs, and one that is no later than either. -/
theorem reducer_keeps (a b : EReal × BitVec 32) :
    (reducer_argmin_f32_i32 (F := Ideal) a b = a ∨ reducer_argmin_f32_i32 (F := Ideal) a b = b)
      ∧ NoLater (reducer_argmin_f32_i32 (F := Ideal) a b) a ∧ NoLater (reducer_argmin_f32_i32 (F := Ideal) a b) b := by
  rw [reducer_eq]
  obtain ⟨x, k⟩ := a
  obtain ⟨y, l⟩ := b
  dsimp only
  unfold NoLater
  rcases lt_trichotomy x y with h | h | h
  · simp [h]
  · subst h
    by_cases h' : k.toInt < l.toInt
    · simp [h', h'.le]
    · simp [h', not_lt.1 h']
  · simp [h, h.not_gt, h.ne']

/-- The distance, read. -/
theorem distOf_apply (z : FVec Ideal S16384x32 .f32) (cb : FVec Ideal S1024x32 .f32) (r : Fin 16384) (k : Fin 1024) :
    distOf z cb (ix2 r k) = Distance.root (Distance.sq (fun d => z (ix2 r d)) (fun d => cb (ix2 k d))) := by
  pointwise [distOf]
  rw [word_two]
  simp only [mul_comm (z _) (cb _)]
  rfl

/-- The pairs a row's search goes over. -/
theorem mem_fiber (d : FVec Ideal S16384x1024 .f32) (r : Fin 16384) (x : EReal × BitVec 32) :
    x ∈ Host.argReduceFiber d (iotaInDim S16384x1024 32 1) reducesTo_S16384x1024_S16384_d1 (ix1 r)
      ↔ ∃ k : Fin 1024, x = (d (ix2 r k), BitVec.ofNat 32 k.val) := by
  unfold Host.argReduceFiber
  simp only [List.mem_map, List.mem_filter, List.mem_finRange, true_and, decide_eq_true_eq,
    Shape.ReducesTo.fiber_r2_a1]
  constructor
  · rintro ⟨n, ⟨k, hk⟩, rfl⟩
    rw [← hk]
    exact ⟨k, rfl⟩
  · rintro ⟨k, rfl⟩
    refine ⟨S16384x1024.rowMajor (ix2 r k), ⟨k, ?_⟩, ?_⟩
    · rw [Equiv.symm_apply_apply]; rfl
    · rw [Equiv.symm_apply_apply]; rfl

/-- A row's search ends at the first of its least distances, -/
theorem argReduce_apply (d : FVec Ideal S16384x1024 .f32) (r : Fin 16384) {K : Fin 1024} (hK : IsFirst (fun k => d (ix2 r k)) K) :
    Host.argReduce reducer_argmin_f32_i32 d (iotaInDim S16384x1024 32 1) (constant S_ .f32 0x7F800000#32)
      (constantI S_ 32 0#32) reducesTo_S16384x1024_S16384_d1 h_S_ (ix1 r) = (d (ix2 r K), BitVec.ofNat 32 K.val) := by
  rw [Ideal.argReduce_eq_reduce2, Host.reduce2_eq_foldl_fiber]
  have e : ((constant S_ .f32 0x7F800000#32 : FVec Ideal S_ .f32) (Shape.Idx.first h_S_), (constantI S_ 32 0#32) (Shape.Idx.first h_S_))
      = ((⊤ : EReal), 0#32) := Prod.ext word_top rfl
  rw [e]
  exact foldl_pairs_eq reducer_keeps hK _ (mem_fiber d r)

/-- whose position is the result. -/
theorem firstMin_apply (d : FVec Ideal S16384x1024 .f32) (r : Fin 16384) {K : Fin 1024} (hK : IsFirst (fun k => d (ix2 r k)) K) :
    firstMin d (ix1 r) = BitVec.ofNat 32 K.val := by
  rw [firstMin, Function.comp_apply, argReduce_apply d r hK]

/-- A row of the vectors, read. -/
theorem rowsOf_apply (z : FVec Ideal S8x1x32x2048 .f32) (b : Fin 8) (t : Fin 2048) (d : Fin 32) :
    rowsOf z (ix2 ⟨b.val * 2048 + t.val, by omega⟩ d) = z (ix4 b 0 d t) := by
  pointwise [rowsOf]

/-- One search, read. -/
theorem searchOf_apply (z : FVec Ideal S8x1x32x2048 .f32) (cb : FVec Ideal S1x1024x32 .f32)
    (hcb : ∀ k d, cb (ix3 0 k d) ≠ ⊤ ∧ cb (ix3 0 k d) ≠ ⊥) (b : Fin 8) (t : Fin 2048) :
    searchOf z cb (ix3 b 0 t) = nearest (fun d => z (ix4 b 0 d t)) (fun k d => cb (ix3 0 k d)) := by
  obtain ⟨K, hK, e⟩ := nearest_spec (fun d => z (ix4 b 0 d t)) (fun k d => cb (ix3 0 k d))
  have hr : b.val * 2048 + t.val < 16384 := by omega
  have h : searchOf z cb (ix3 b 0 t)
      = firstMin (distOf (rowsOf z) (shapeCast S1024x32 cb shapeCasts_S1x1024x32_S1024x32)) (ix1 ⟨b.val * 2048 + t.val, hr⟩) := by
    unfold searchOf
    generalize firstMin (F := Ideal) _ = v
    pointwise
  rw [h, e]
  refine firstMin_apply _ _ ?_
  convert hK.of_le_iff fun k j => (Distance.root_sq_le_iff _ (hcb k) (hcb j)).symm using 2 with k
  refine (distOf_apply _ _ _ k).trans (congrArg _ (congrArg₂ _ (funext fun d => rowsOf_apply z b t d) (funext fun d => ?_)))
  pointwise

/-- The plane of codebook `i`, read. -/
theorem plane_apply (z : FVec Ideal S8x256x2048 .f32) (cb : FVec Ideal S8x1024x32 .f32)
    (hcb : ∀ i k d, cb (ix3 i k d) ≠ ⊤ ∧ cb (ix3 i k d) ≠ ⊥) (i : Fin 8)
    (h : S8x8x32x2048.Slices ![0, i.val, 0, 0] S8x1x32x2048) (h' : S8x1024x32.Slices ![i.val, 0, 0] S1x1024x32)
    (b : Fin 8) (t : Fin 2048) :
    plane z cb ![0, i.val, 0, 0] ![i.val, 0, 0] h h' (ix3 b 0 t)
      = nearest (fun d => z (ix3 b ⟨32 * i.val + d.val, by omega⟩ t)) (fun k d => cb (ix3 i k d)) := by
  have e (k : Fin 1024) (d : Fin 32) : extractStridedSlice S1x1024x32 ![i.val, 0, 0] cb h' (ix3 0 k d) = cb (ix3 i k d) := by
    pointwise
  refine (searchOf_apply _ _ (fun k d => ?_) b t).trans (congrArg₂ _ (funext fun d => ?_) (funext fun k => funext fun d => e k d))
  · rw [e]; exact hcb i k d
  · pointwise [grouped]
    exact congrArg (fun ch => z (ix3 b ch t)) (Fin.ext (by show i.val * 32 + d.val = 32 * i.val + d.val; omega))

theorem slices_z : ∀ i : Fin 8, S8x8x32x2048.Slices ![0, i.val, 0, 0] S8x1x32x2048 := by decide

theorem slices_cb : ∀ i : Fin 8, S8x1024x32.Slices ![i.val, 0, 0] S1x1024x32 := by decide

/-- The reference's result, read. -/
theorem stacked_apply (z : FVec Ideal S8x256x2048 .f32) (cb : FVec Ideal S8x1024x32 .f32)
    (hcb : ∀ i k d, cb (ix3 i k d) ≠ ⊤ ∧ cb (ix3 i k d) ≠ ⊥) (j : S8x8x2048.Idx) :
    stacked z cb j
      = nearest (fun d => z (ix3 (j 0) ⟨32 * (j 1).val + d.val, by have h : (j 1).val < 8 := (j 1).isLt; omega⟩ (j 2)))
          (fun k d => cb (ix3 (j 1) k d)) := by
  refine Eq.trans ?_ (plane_apply z cb hcb (j 1) (slices_z (j 1)) (slices_cb (j 1)) (j 0) (j 2))
  refine concatenate_ofFn_unit_apply (t := S8x8x2048) (s₁ := S8x1x2048) 1
    (fun i : Fin 8 => plane z cb ![0, i.val, 0, 0] ![i.val, 0, 0] (slices_z i) (slices_cb i))
    concatenates_S8x1x2048_S8x1x2048_S8x1x2048_S8x1x2048_S8x1x2048_S8x1x2048_S8x1x2048_S8x1x2048_S8x8x2048_d1
    rfl rfl j (j 1) rfl (ix3 (j 0) 0 (j 2)) fun a ha => ?_
  match a with
  | ⟨0, _⟩ => rfl
  | ⟨1, _⟩ => exact absurd rfl ha
  | ⟨2, _⟩ => rfl

end Cert.RefValue
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.KernelValue
public import proofs.«01_k».proof.Proof.RefResult
public import proofs.«01_k».proof.Proof.RefValue
public import Idealize.ShloMosaic.Adequacy
public import Idealize.ShloMosaic.Init

@[expose] public section

noncomputable section

namespace Cert.Proof

open Idealize.ShloMosaic Idealize.SL.Sem

/-- The one side condition of `codebooks_finite`: a scalar broadcasts to any shape. -/
theorem facts_pre : Cert.Pre_codebooks_finite.Facts := ⟨by decide⟩

/-- Where `codebooks_finite` is all ones, no codebook entry is infinite. -/
theorem finite_of_pre [Cert.Pre_codebooks_finite.Facts] (z : FVec Ideal Cert.Pre_codebooks_finite.S8x256x2048 .f32)
    (cb : FVec Ideal Cert.Pre_codebooks_finite.S8x1024x32 .f32)
    (h : Cert.Pre_codebooks_finite.fn (F := Ideal) z cb = fun _ => 1#1) (i : Fin 8) (k : Fin 1024) (d : Fin 32) :
    cb (ix3 i k d) ≠ ⊤ ∧ cb (ix3 i k d) ≠ ⊥ := by
  have hlt : max (cb (ix3 i k d)) (-cb (ix3 i k d)) < ⊤ := by
    have e : BitVec.ofBool (decide (max (cb (ix3 i k d)) (-cb (ix3 i k d)) < Ideal.ofBits .f32 0x7F800000#32)) = 1#1 :=
      congrFun h (ix3 i k d)
    rw [Cert.Nearest.word_top] at e
    by_contra hn
    rw [decide_eq_false hn] at e
    exact absurd e (by decide)
  refine ⟨fun e => ?_, fun e => ?_⟩ <;> rw [e] at hlt <;> simp at hlt

/-- The reference runs and leaves its arguments; no counter moves. -/
theorem frame_reference : Cert.quiescent_ReferenceIdeal := fun m g _ =>
  θ_run_mono (Cert.RefRun.run (F := Ideal) m g) fun _ h => ⟨fun c => (h.1 c).2, h.2⟩

/-- The value claim: both results are the nearest codewords. -/
theorem algebraic [Cert.Pre_codebooks_finite.Facts] : Cert.algebraic_KernelIdeal_ReferenceIdeal_pre_codebooks_finite := by
  intro m g m' g' hpre hagree
  refine ⟨fun c => Cert.KernelValue.G m c, Cert.KernelValue.run m g, ?_⟩
  refine θ_run_mono (Cert.RefRun.run (F := Ideal) m' g') fun r h c => ⟨(h.1 c).1.trans ?_, (h.1 c).2⟩
  rw [(hagree c).1, (hagree c).2]
  funext j
  exact Cert.RefValue.stacked_apply _ _ (fun i k d => finite_of_pre _ _ (hpre c) i k d) j

theorem claim : Cert.Claim :=
  ⟨Cert.Kernel.Gen.facts, Cert.KernelIdeal.Gen.facts, Cert.ReferenceIdeal.Gen.facts, facts_pre,
    fun m ρ _ => Cert.Kernel.Gen.frame m ρ,
    fun m ρ _ => Cert.KernelIdeal.Gen.frame m ρ,
    fun m ρ _ => Cert.KernelIdeal.Gen.frame m ρ,
    frame_reference,
    fun m ρ _ => frame_reference m ρ trivial,
    trivial,
    letI := facts_pre
    algebraic⟩

end Cert.Proof

end
